-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x6912 : Shape := ⟨3, ![192, 1, 6912]⟩
abbrev S2560x6912 : Shape := ⟨2, ![2560, 6912]⟩
abbrev S5120x216 : Shape := ⟨2, ![5120, 216]⟩
abbrev S192x6912 : Shape := ⟨2, ![192, 6912]⟩
abbrev S216x5120 : Shape := ⟨2, ![216, 5120]⟩
abbrev S192x5120 : Shape := ⟨2, ![192, 5120]⟩
abbrev S512x6912 : Shape := ⟨2, ![512, 6912]⟩
abbrev S216x1024 : Shape := ⟨2, ![216, 1024]⟩
abbrev S192x1024 : Shape := ⟨2, ![192, 1024]⟩
abbrev S192x512 : Shape := ⟨2, ![192, 512]⟩
abbrev S256x256 : Shape := ⟨2, ![256, 256]⟩
abbrev S512x256 : Shape := ⟨2, ![512, 256]⟩
abbrev S256x512 : Shape := ⟨2, ![256, 512]⟩
abbrev S1x512 : Shape := ⟨2, ![1, 512]⟩
abbrev S16x512 : Shape := ⟨2, ![16, 512]⟩
abbrev S32x512 : Shape := ⟨2, ![32, 512]⟩
abbrev S192x256 : Shape := ⟨2, ![192, 256]⟩
abbrev S192x1x5120 : Shape := ⟨3, ![192, 1, 5120]⟩

abbrev nBuf : Space → Nat
  | .hbm => 7
  | .vmem => 8
  | .smem => 0
  | _ => 0

abbrev bufTy : (tb : Table) → Fin (tcTables nBuf tb) → BufTy
  | .hbm, ⟨0, _⟩ => ⟨S192x1x6912, .bf16⟩
  | .hbm, ⟨1, _⟩ => ⟨S2560x6912, .i8⟩
  | .hbm, ⟨2, _⟩ => ⟨S5120x216, .i8⟩
  | .hbm, ⟨3, _⟩ => ⟨S192x6912, .bf16⟩
  | .hbm, ⟨4, _⟩ => ⟨S216x5120, .i8⟩
  | .hbm, ⟨5, _⟩ => ⟨S192x5120, .bf16⟩
  | .hbm, ⟨6, _⟩ => ⟨S192x1x5120, .bf16⟩
  | .local _ .vmem, ⟨0, _⟩ => ⟨S192x6912, .bf16⟩
  | .local _ .vmem, ⟨1, _⟩ => ⟨S512x6912, .i8⟩
  | .local _ .vmem, ⟨2, _⟩ => ⟨S512x6912, .i8⟩
  | .local _ .vmem, ⟨3, _⟩ => ⟨S216x1024, .i8⟩
  | .local _ .vmem, ⟨4, _⟩ => ⟨S216x1024, .i8⟩
  | .local _ .vmem, ⟨5, _⟩ => ⟨S192x1024, .bf16⟩
  | .local _ .vmem, ⟨6, _⟩ => ⟨S192x1024, .bf16⟩
  | .local _ .vmem, ⟨7, _⟩ => ⟨S216x1024, .i32⟩
  | _, _ => ⟨S192x1x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x6912 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S216x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x6912 : Shape := ⟨3, ![192, 1, 6912]⟩
abbrev S2560x6912 : Shape := ⟨2, ![2560, 6912]⟩
abbrev S5120x216 : Shape := ⟨2, ![5120, 216]⟩
abbrev S192x6912 : Shape := ⟨2, ![192, 6912]⟩
abbrev S216 : Shape := ⟨1, ![216]⟩
abbrev S216x1 : Shape := ⟨2, ![216, 1]⟩
abbrev S6912 : Shape := ⟨1, ![6912]⟩
abbrev S_ : Shape := ⟨0, ![]⟩
abbrev S1x6912 : Shape := ⟨2, ![1, 6912]⟩
abbrev S216x6912 : Shape := ⟨2, ![216, 6912]⟩
abbrev S2560x216 : Shape := ⟨2, ![2560, 216]⟩
abbrev S192x2560 : Shape := ⟨2, ![192, 2560]⟩
abbrev S192x2560x1 : Shape := ⟨3, ![192, 2560, 1]⟩
abbrev S192x2560x2 : Shape := ⟨3, ![192, 2560, 2]⟩
abbrev S192x1x5120 : Shape := ⟨3, ![192, 1, 5120]⟩

abbrev nBuf : Space → Nat
  | .hbm => 192
  | .vmem => 0
  | .smem => 0
  | _ => 0

abbrev hbmTy0_0 (i : Nat) : BufTy := match i % 128 with
  | 0 => ⟨S192x1x6912, .bf16⟩
  | 1 => ⟨S2560x6912, .i8⟩
  | 2 => ⟨S5120x216, .i8⟩
  | 3 => ⟨S192x6912, .bf16⟩
  | 4 => ⟨S216, .i32⟩
  | 5 => ⟨S216x1, .i32⟩
  | 6 => ⟨S6912, .i32⟩
  | 7 => ⟨S_, .i32⟩
  | 8 => ⟨S_, .i32⟩
  | 9 => ⟨S6912, .i32⟩
  | 10 => ⟨S6912, .i32⟩
  | 11 => ⟨S6912, .i32⟩
  | 12 => ⟨S_, .i32⟩
  | 13 => ⟨S6912, .i32⟩
  | 14 => ⟨S6912, .i1⟩
  | 15 => ⟨S6912, .i32⟩
  | 16 => ⟨S6912, .i32⟩
  | 17 => ⟨S_, .i32⟩
  | 18 => ⟨S6912, .i32⟩
  | 19 => ⟨S6912, .i1⟩
  | 20 => ⟨S6912, .i1⟩
  | 21 => ⟨S_, .i32⟩
  | 22 => ⟨S6912, .i32⟩
  | 23 => ⟨S6912, .i32⟩
  | 24 => ⟨S6912, .i32⟩
  | 25 => ⟨S1x6912, .i32⟩
  | 26 => ⟨S216x6912, .i32⟩
  | 27 => ⟨S216x6912, .i32⟩
  | 28 => ⟨S216x6912, .i1⟩
  | 29 => ⟨S216x6912, .bf16⟩
  | 30 => ⟨S2560x6912, .i32⟩
  | 31 => ⟨S_, .i32⟩
  | 32 => ⟨S2560x6912, .i32⟩
  | 33 => ⟨S2560x6912, .i32⟩
  | 34 => ⟨S_, .i32⟩
  | 35 => ⟨S2560x6912, .i32⟩
  | 36 => ⟨S2560x6912, .i32⟩
  | 37 => ⟨S2560x216, .i8⟩
  | 38 => ⟨S_, .i32⟩
  | 39 => ⟨S2560x6912, .i32⟩
  | 40 => ⟨S2560x6912, .i32⟩
  | 41 => ⟨S_, .i32⟩
  | 42 => ⟨S2560x6912, .i32⟩
  | 43 => ⟨S2560x6912, .i1⟩
  | 44 => ⟨S_, .i32⟩
  | 45 => ⟨S2560x6912, .i32⟩
  | 46 => ⟨S2560x6912, .i32⟩
  | 47 => ⟨S_, .i32⟩
  | 48 => ⟨S2560x6912, .i32⟩
  | 49 => ⟨S2560x6912, .i1⟩
  | 50 => ⟨S_, .i32⟩
  | 51 => ⟨S2560x6912, .i32⟩
  | 52 => ⟨S2560x6912, .i32⟩
  | 53 => ⟨S_, .i32⟩
  | 54 => ⟨S2560x6912, .i32⟩
  | 55 => ⟨S2560x6912, .i1⟩
  | 56 => ⟨S_, .i32⟩
  | 57 => ⟨S2560x6912, .i32⟩
  | 58 => ⟨S2560x6912, .i32⟩
  | 59 => ⟨S_, .i32⟩
  | 60 => ⟨S2560x6912, .i32⟩
  | 61 => ⟨S2560x6912, .i1⟩
  | 62 => ⟨S_, .bf16⟩
  | 63 => ⟨S_, .bf16⟩
  | 64 => ⟨S2560x6912, .bf16⟩
  | 65 => ⟨S2560x6912, .bf16⟩
  | 66 => ⟨S2560x6912, .bf16⟩
  | 67 => ⟨S_, .bf16⟩
  | 68 => ⟨S_, .bf16⟩
  | 69 => ⟨S2560x6912, .bf16⟩
  | 70 => ⟨S2560x6912, .bf16⟩
  | 71 => ⟨S2560x6912, .bf16⟩
  | 72 => ⟨S_, .bf16⟩
  | 73 => ⟨S_, .bf16⟩
  | 74 => ⟨S2560x6912, .bf16⟩
  | 75 => ⟨S2560x6912, .bf16⟩
  | 76 => ⟨S2560x6912, .bf16⟩
  | 77 => ⟨S_, .bf16⟩
  | 78 => ⟨S_, .bf16⟩
  | 79 => ⟨S2560x6912, .bf16⟩
  | 80 => ⟨S2560x6912, .bf16⟩
  | 81 => ⟨S2560x6912, .bf16⟩
  | 82 => ⟨S2560x6912, .bf16⟩
  | 83 => ⟨S2560x6912, .bf16⟩
  | 84 => ⟨S2560x6912, .bf16⟩
  | 85 => ⟨S2560x6912, .bf16⟩
  | 86 => ⟨S2560x6912, .bf16⟩
  | 87 => ⟨S2560x216, .i32⟩
  | 88 => ⟨S_, .i32⟩
  | 89 => ⟨S2560x216, .i32⟩
  | 90 => ⟨S2560x216, .i32⟩
  | 91 => ⟨S_, .f32⟩
  | 92 => ⟨S2560x216, .f32⟩
  | 93 => ⟨S2560x216, .f32⟩
  | 94 => ⟨S2560x216, .f32⟩
  | 95 => ⟨S_, .i32⟩
  | 96 => ⟨S2560x216, .i32⟩
  | 97 => ⟨S2560x216, .i1⟩
  | 98 => ⟨S_, .i32⟩
  | 99 => ⟨S2560x216, .i32⟩
  | 100 => ⟨S2560x216, .i1⟩
  | 101 => ⟨S_, .f32⟩
  | 102 => ⟨S2560x216, .f32⟩
  | 103 => ⟨S2560x216, .f32⟩
  | 104 => ⟨S_, .f32⟩
  | 105 => ⟨S2560x216, .f32⟩
  | 106 => ⟨S2560x216, .f32⟩
  | 107 => ⟨S2560x216, .bf16⟩
  | 108 => ⟨S2560x6912, .f32⟩
  | 109 => ⟨S2560x6912, .bf16⟩
  | 110 => ⟨S2560x6912, .bf16⟩
  | 111 => ⟨S2560x216, .i8⟩
  | 112 => ⟨S_, .i32⟩
  | 113 => ⟨S2560x6912, .i32⟩
  | 114 => ⟨S2560x6912, .i32⟩
  | 115 => ⟨S_, .i32⟩
  | 116 => ⟨S2560x6912, .i32⟩
  | 117 => ⟨S2560x6912, .i1⟩
  | 118 => ⟨S_, .i32⟩
  | 119 => ⟨S2560x6912, .i32⟩
  | 120 => ⟨S2560x6912, .i32⟩
  | 121 => ⟨S_, .i32⟩
  | 122 => ⟨S2560x6912, .i32⟩
  | 123 => ⟨S2560x6912, .i1⟩
  | 124 => ⟨S_, .i32⟩
  | 125 => ⟨S2560x6912, .i32⟩
  | 126 => ⟨S2560x6912, .i32⟩
  | 127 => ⟨S_, .i32⟩
  | _ => ⟨S192x1x6912, .bf16⟩

abbrev hbmTy0_1 (i : Nat) : BufTy := match i % 128 with
  | 0 => ⟨S2560x6912, .i32⟩
  | 1 => ⟨S2560x6912, .i1⟩
  | 2 => ⟨S_, .i32⟩
  | 3 => ⟨S2560x6912, .i32⟩
  | 4 => ⟨S2560x6912, .i32⟩
  | 5 => ⟨S_, .i32⟩
  | 6 => ⟨S2560x6912, .i32⟩
  | 7 => ⟨S2560x6912, .i1⟩
  | 8 => ⟨S_, .bf16⟩
  | 9 => ⟨S_, .bf16⟩
  | 10 => ⟨S2560x6912, .bf16⟩
  | 11 => ⟨S2560x6912, .bf16⟩
  | 12 => ⟨S2560x6912, .bf16⟩
  | 13 => ⟨S_, .bf16⟩
  | 14 => ⟨S_, .bf16⟩
  | 15 => ⟨S2560x6912, .bf16⟩
  | 16 => ⟨S2560x6912, .bf16⟩
  | 17 => ⟨S2560x6912, .bf16⟩
  | 18 => ⟨S_, .bf16⟩
  | 19 => ⟨S_, .bf16⟩
  | 20 => ⟨S2560x6912, .bf16⟩
  | 21 => ⟨S2560x6912, .bf16⟩
  | 22 => ⟨S2560x6912, .bf16⟩
  | 23 => ⟨S_, .bf16⟩
  | 24 => ⟨S_, .bf16⟩
  | 25 => ⟨S2560x6912, .bf16⟩
  | 26 => ⟨S2560x6912, .bf16⟩
  | 27 => ⟨S2560x6912, .bf16⟩
  | 28 => ⟨S2560x6912, .bf16⟩
  | 29 => ⟨S2560x6912, .bf16⟩
  | 30 => ⟨S2560x6912, .bf16⟩
  | 31 => ⟨S2560x6912, .bf16⟩
  | 32 => ⟨S2560x6912, .bf16⟩
  | 33 => ⟨S2560x216, .i32⟩
  | 34 => ⟨S_, .i32⟩
  | 35 => ⟨S2560x216, .i32⟩
  | 36 => ⟨S2560x216, .i32⟩
  | 37 => ⟨S_, .f32⟩
  | 38 => ⟨S2560x216, .f32⟩
  | 39 => ⟨S2560x216, .f32⟩
  | 40 => ⟨S2560x216, .f32⟩
  | 41 => ⟨S_, .i32⟩
  | 42 => ⟨S2560x216, .i32⟩
  | 43 => ⟨S2560x216, .i1⟩
  | 44 => ⟨S_, .i32⟩
  | 45 => ⟨S2560x216, .i32⟩
  | 46 => ⟨S2560x216, .i1⟩
  | 47 => ⟨S_, .f32⟩
  | 48 => ⟨S2560x216, .f32⟩
  | 49 => ⟨S2560x216, .f32⟩
  | 50 => ⟨S_, .f32⟩
  | 51 => ⟨S2560x216, .f32⟩
  | 52 => ⟨S2560x216, .f32⟩
  | 53 => ⟨S2560x216, .bf16⟩
  | 54 => ⟨S2560x6912, .f32⟩
  | 55 => ⟨S2560x6912, .bf16⟩
  | 56 => ⟨S2560x6912, .bf16⟩
  | 57 => ⟨S192x2560, .f32⟩
  | 58 => ⟨S192x2560, .f32⟩
  | 59 => ⟨S192x2560x1, .f32⟩
  | 60 => ⟨S192x2560x1, .f32⟩
  | 61 => ⟨S192x2560x2, .f32⟩
  | 62 => ⟨S192x1x5120, .f32⟩
  | 63 => ⟨S192x1x5120, .bf16⟩
  | _ => ⟨S192x1x6912, .bf16⟩

abbrev hbmTy (i : Nat) : BufTy := match i / 128 with
  | 0 => hbmTy0_0 i
  | 1 => hbmTy0_1 i
  | _ => ⟨S192x1x6912, .bf16⟩

abbrev bufTy : (tb : Table) → Fin (tcTables nBuf tb) → BufTy
  | .hbm, ⟨i, _⟩ => hbmTy i
  | _, _ => ⟨S192x1x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_c_7 : Ref sig .tc := ⟨.hbm, 53, rfl⟩
abbrev main_v26 : Ref sig .tc := ⟨.hbm, 54, rfl⟩
abbrev main_v27 : Ref sig .tc := ⟨.hbm, 55, rfl⟩
abbrev main_c_8 : Ref sig .tc := ⟨.hbm, 56, rfl⟩
abbrev main_v28 : Ref sig .tc := ⟨.hbm, 57, rfl⟩
abbrev main_v29 : Ref sig .tc := ⟨.hbm, 58, rfl⟩
abbrev main_c_9 : Ref sig .tc := ⟨.hbm, 59, rfl⟩
abbrev main_v30 : Ref sig .tc := ⟨.hbm, 60, rfl⟩
abbrev main_v31 : Ref sig .tc := ⟨.hbm, 61, rfl⟩
abbrev main_cst : Ref sig .tc := ⟨.hbm, 62, rfl⟩
abbrev main_cst_10 : Ref sig .tc := ⟨.hbm, 63, rfl⟩
abbrev main_call1_v0 : Ref sig .tc := ⟨.hbm, 64, rfl⟩
abbrev main_call1_v1 : Ref sig .tc := ⟨.hbm, 65, rfl⟩
abbrev main_v32 : Ref sig .tc := ⟨.hbm, 66, rfl⟩
abbrev main_cst_11 : Ref sig .tc := ⟨.hbm, 67, rfl⟩
abbrev main_cst_12 : Ref sig .tc := ⟨.hbm, 68, rfl⟩
abbrev main_call2_v0 : Ref sig .tc := ⟨.hbm, 69, rfl⟩
abbrev main_call2_v1 : Ref sig .tc := ⟨.hbm, 70, rfl⟩
abbrev main_v33 : Ref sig .tc := ⟨.hbm, 71, rfl⟩
abbrev main_cst_13 : Ref sig .tc := ⟨.hbm, 72, rfl⟩
abbrev main_cst_14 : Ref sig .tc := ⟨.hbm, 73, rfl⟩
abbrev main_call3_v0 : Ref sig .tc := ⟨.hbm, 74, rfl⟩
abbrev main_call3_v1 : Ref sig .tc := ⟨.hbm, 75, rfl⟩
abbrev main_v34 : Ref sig .tc := ⟨.hbm, 76, rfl⟩
abbrev main_cst_15 : Ref sig .tc := ⟨.hbm, 77, rfl⟩
abbrev main_cst_16 : Ref sig .tc := ⟨.hbm, 78, rfl⟩
abbrev main_call4_v0 : Ref sig .tc := ⟨.hbm, 79, rfl⟩
abbrev main_call4_v1 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_17 : Ref sig .tc := ⟨.hbm, 88, rfl⟩
abbrev main_v42 : Ref sig .tc := ⟨.hbm, 89, rfl⟩
abbrev main_v43 : Ref sig .tc := ⟨.hbm, 90, rfl⟩
abbrev main_cst_18 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_c_19 : Ref sig .tc := ⟨.hbm, 95, rfl⟩
abbrev main_v47 : Ref sig .tc := ⟨.hbm, 96, rfl⟩
abbrev main_v48 : Ref sig .tc := ⟨.hbm, 97, rfl⟩
abbrev main_c_20 : Ref sig .tc := ⟨.hbm, 98, rfl⟩
abbrev main_v49 : Ref sig .tc := ⟨.hbm, 99, rfl⟩
abbrev main_v50 : Ref sig .tc := ⟨.hbm, 100, rfl⟩
abbrev main_cst_21 : Ref sig .tc := ⟨.hbm, 101, rfl⟩
abbrev main_call9_v0 : Ref sig .tc := ⟨.hbm, 102, rfl⟩
abbrev main_v51 : Ref sig .tc := ⟨.hbm, 103, rfl⟩
abbrev main_cst_22 : Ref sig .tc := ⟨.hbm, 104, rfl⟩
abbrev main_call10_v0 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_c_23 : Ref sig .tc := ⟨.hbm, 112, rfl⟩
abbrev main_v58 : Ref sig .tc := ⟨.hbm, 113, rfl⟩
abbrev main_v59 : Ref sig .tc := ⟨.hbm, 114, rfl⟩
abbrev main_c_24 : Ref sig .tc := ⟨.hbm, 115, rfl⟩
abbrev main_v60 : Ref sig .tc := ⟨.hbm, 116, rfl⟩
abbrev main_v61 : Ref sig .tc := ⟨.hbm, 117, rfl⟩
abbrev main_c_25 : Ref sig .tc := ⟨.hbm, 118, rfl⟩
abbrev main_v62 : Ref sig .tc := ⟨.hbm, 119, rfl⟩
abbrev main_v63 : Ref sig .tc := ⟨.hbm, 120, rfl⟩
abbrev main_c_26 : Ref sig .tc := ⟨.hbm, 121, rfl⟩
abbrev main_v64 : Ref sig .tc := ⟨.hbm, 122, rfl⟩
abbrev main_v65 : Ref sig .tc := ⟨.hbm, 123, rfl⟩
abbrev main_c_27 : Ref sig .tc := ⟨.hbm, 124, rfl⟩
abbrev main_v66 : Ref sig .tc := ⟨.hbm, 125, rfl⟩
abbrev main_v67 : Ref sig .tc := ⟨.hbm, 126, rfl⟩
abbrev main_c_28 : Ref sig .tc := ⟨.hbm, 127, rfl⟩
abbrev main_v68 : Ref sig .tc := ⟨.hbm, 128, rfl⟩
abbrev main_v69 : Ref sig .tc := ⟨.hbm, 129, rfl⟩
abbrev main_c_29 : Ref sig .tc := ⟨.hbm, 130, rfl⟩
abbrev main_v70 : Ref sig .tc := ⟨.hbm, 131, rfl⟩
abbrev main_v71 : Ref sig .tc := ⟨.hbm, 132, rfl⟩
abbrev main_c_30 : Ref sig .tc := ⟨.hbm, 133, rfl⟩
abbrev main_v72 : Ref sig .tc := ⟨.hbm, 134, rfl⟩
abbrev main_v73 : Ref sig .tc := ⟨.hbm, 135, rfl⟩
abbrev main_cst_31 : Ref sig .tc := ⟨.hbm, 136, rfl⟩
abbrev main_cst_32 : Ref sig .tc := ⟨.hbm, 137, rfl⟩
abbrev main_call11_v0 : Ref sig .tc := ⟨.hbm, 138, rfl⟩
abbrev main_call11_v1 : Ref sig .tc := ⟨.hbm, 139, rfl⟩
abbrev main_v74 : Ref sig .tc := ⟨.hbm, 140, rfl⟩
abbrev main_cst_33 : Ref sig .tc := ⟨.hbm, 141, rfl⟩
abbrev main_cst_34 : Ref sig .tc := ⟨.hbm, 142, rfl⟩
abbrev main_call12_v0 : Ref sig .tc := ⟨.hbm, 143, rfl⟩
abbrev main_call12_v1 : Ref sig .tc := ⟨.hbm, 144, rfl⟩
abbrev main_v75 : Ref sig .tc := ⟨.hbm, 145, rfl⟩
abbrev main_cst_35 : Ref sig .tc := ⟨.hbm, 146, rfl⟩
abbrev main_cst_36 : Ref sig .tc := ⟨.hbm, 147, rfl⟩
abbrev main_call13_v0 : Ref sig .tc := ⟨.hbm, 148, rfl⟩
abbrev main_call13_v1 : Ref sig .tc := ⟨.hbm, 149, rfl⟩
abbrev main_v76 : Ref sig .tc := ⟨.hbm, 150, rfl⟩
abbrev main_cst_37 : Ref sig .tc := ⟨.hbm, 151, rfl⟩
abbrev main_cst_38 : Ref sig .tc := ⟨.hbm, 152, rfl⟩
abbrev main_call14_v0 : Ref sig .tc := ⟨.hbm, 153, rfl⟩
abbrev main_call14_v1 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_c_39 : Ref sig .tc := ⟨.hbm, 162, rfl⟩
abbrev main_v84 : Ref sig .tc := ⟨.hbm, 163, rfl⟩
abbrev main_v85 : Ref sig .tc := ⟨.hbm, 164, rfl⟩
abbrev main_cst_40 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_c_41 : Ref sig .tc := ⟨.hbm, 169, rfl⟩
abbrev main_v89 : Ref sig .tc := ⟨.hbm, 170, rfl⟩
abbrev main_v90 : Ref sig .tc := ⟨.hbm, 171, rfl⟩
abbrev main_c_42 : Ref sig .tc := ⟨.hbm, 172, rfl⟩
abbrev main_v91 : Ref sig .tc := ⟨.hbm, 173, rfl⟩
abbrev main_v92 : Ref sig .tc := ⟨.hbm, 174, rfl⟩
abbrev main_cst_43 : Ref sig .tc := ⟨.hbm, 175, rfl⟩
abbrev main_call19_v0 : Ref sig .tc := ⟨.hbm, 176, rfl⟩
abbrev main_v93 : Ref sig .tc := ⟨.hbm, 177, rfl⟩
abbrev main_cst_44 : Ref sig .tc := ⟨.hbm, 178, rfl⟩
abbrev main_call20_v0 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩

abbrev nD : Nat := 1
abbrev τ : Topo := Topo.v7x

variable {F : FTy → Type} [FloatOps F]
-- ==== Proof.Step.lean ====
/-
  What one grid point of the kernel computes, as the run of its body finds it.

  A point produces 1024 output columns in two halves of 512. Each half starts from zero and adds 27 products, one per
  stretch of 256 reduction columns. `tile` is one such step: it decodes 256 x 256 bytes to 512 rows of numbers, turns
  them, multiplies each of the eight groups of 32 rows by its row of scales, and adds the product with the activations.
  `pieces_eq` says that what the body stores is the two halves, each the 27 steps one after another.
-/
module

public import proofs.«01_k».proof.Proof.Gen.KernelIdeal.Frame

@[expose] public section

set_option maxRecDepth 65536

noncomputable section

namespace Cert.Proof.K

open Cert.KernelIdeal Cert.KernelIdeal.Gen
open Idealize.ShloMosaic Idealize.ShloMosaic.TcCoe Idealize.ShloMosaic.Tactic Idealize.SL.Sem

variable {F : FTy → Type} [FloatOps F]

/-! ## One step -/

/-- A byte's two codes, widened: the low one in the low half of a word, the high one in the high half. -/
def spread (c : Vec F S256x256 .i8) : IVec S256x256 32 :=
  ori (andi (extui 32 c natLt_8_32) (broadcast S256x256 15#32))
    (shli (shrsi (extui 32 c natLt_8_32) (broadcast S256x256 4#32)) (broadcast S256x256 16#32))

/-- The bits of the number a code stands for. -/
def codeBits (v : IVec S512x256 16) : IVec S512x256 16 :=
  ori (select (cmpi .slt (andi v (broadcast S512x256 7#16)) (broadcast S512x256 2#16))
      (muli (andi v (broadcast S512x256 7#16)) (broadcast S512x256 16128#16))
      (addi (shli (andi v (broadcast S512x256 7#16)) (broadcast S512x256 6#16)) (broadcast S512x256 16128#16)))
    (shli (andi v (broadcast S512x256 8#16)) (broadcast S512x256 12#16))

/-- The numbers of 256 x 256 bytes, reduction column by output column. -/
def vals (c : Vec F S256x256 .i8) : FVec F S256x512 .bf16 :=
  extf .bf16 (transpose S256x512 [1, 0] (truncf .fp8e4m3 (bitcastToFloat .bf16
    (codeBits (bitcast S512x256 16 (spread c) bitcasts_S256x256_w32_S512x256_w16))) bitsLt_fp8e4m3_bf16)
    transposes_S512x256_p1_0_S256x512) bitsLt_fp8e4m3_bf16

/-- A row of scales, repeated down a group of 32 reduction columns. -/
def scaleRows (row : Vec F S1x512 .i32) : FVec F S32x512 .bf16 :=
  bitcastToFloat .bf16 (bitcast S32x512 16 (broadcastTo S16x512 (shapeCast S1x512 row shapeCasts_S1x512_S1x512)
    broadcasts_S1x512_S16x512) bitcasts_S16x512_w32_S32x512_w16)

theorem slices_group (q : Fin 8) : S256x512.Slices ![q.val * 32, 0] S32x512 :=
  ⟨rfl, fun a => match a with
    | ⟨0, _⟩ => by show q.val * 32 + 32 ≤ 256; omega
    | ⟨1, _⟩ => by show 0 + 512 ≤ 512; omega⟩

/-- One group of 32 rows of the numbers times its scales. -/
def group (v : FVec F S256x512 .bf16) (row : Fin 8 → Vec F S1x512 .i32) (q : Fin 8) : FVec F S32x512 .bf16 :=
  mulf (extractStridedSlice S32x512 ![q.val * 32, 0] v (slices_group q)) (scaleRows (row q))

/-- The weights of one step: the eight groups under one another. -/
def weights (v : FVec F S256x512 .bf16) (row : Fin 8 → Vec F S1x512 .i32) : FVec F S256x512 .bf16 :=
  concatenate S256x512 0 (List.ofFn fun q : Fin 8 => ⟨S32x512, group v row q⟩)
    concatenates_S32x512_S32x512_S32x512_S32x512_S32x512_S32x512_S32x512_S32x512_S256x512_d0

/-- One step: the running sum plus 256 columns of activations times 256 rows of weights. -/
def tile (acc : FVec F S192x512 .f32) (c : Vec F S256x256 .i8) (row : Fin 8 → Vec F S1x512 .i32)
    (x : Vec F S192x256 .bf16) : FVec F S192x512 .f32 :=
  addf acc (matmul dot_S192x256_S256x512_S192x512_1_0_0_1_n_n none (shapeCast S192x256 x shapeCasts_S192x256_S192x256)
    (weights (vals c) row) (constant S192x512 .f32 0x00000000#32))

/-- 27 steps from zero. -/
def half (c : Fin 27 → Vec F S256x256 .i8) (row : Fin 27 → Fin 8 → Vec F S1x512 .i32)
    (x : Fin 27 → Vec F S192x256 .bf16) : FVec F S192x512 .bf16 :=
  truncf .bf16 ([0, 1, 2, 3, 4, 5, 6, 7, 8, 9, 10, 11, 12, 13, 14, 15, 16, 17, 18, 19, 20, 21, 22, 23, 24, 25, 26].foldl
    (fun acc kt => tile acc (c kt) (row kt) (x kt)) (broadcast S192x512 (Scalar.ofBits .f32 0x00000000#32)))
    bitsLt_bf16_f32

/-! ## The run's loads -/

section Loads

variable (arg1 : Memref sig .tc .vmem S192x6912 .bf16) (harg1 : arg1.IsWhole)
  (arg2 : Memref sig .tc .vmem S512x6912 .i8) (harg2 : arg2.IsWhole)
  (arg3 : Memref sig .tc .vmem S216x1024 .i8) (harg3 : arg3.IsWhole)
  (arg5 : Memref sig .tc .vmem S216x1024 .i32)
  (x0 : Vec F S192x6912 .bf16) (x1 : Vec F S512x6912 .i8) (x2 : Vec F S216x1024 .i8)

theorem inb_x (kt : Fin 27) : ∀ a, ![0, kt.val * 256] a + S192x256.size a ≤ S192x6912.size a := by
  intro a; fin_cases a
  · show 0 + 192 ≤ 192; omega
  · show kt.val * 256 + 256 ≤ 6912; omega

theorem inb_c (h : Fin 2) (kt : Fin 27) : ∀ a, ![h.val * 256, kt.val * 256] a + S256x256.size a ≤ S512x6912.size a := by
  intro a; fin_cases a
  · show h.val * 256 + 256 ≤ 512; omega
  · show kt.val * 256 + 256 ≤ 6912; omega

theorem inb_r (h : Fin 2) (kt : Fin 27) (q : Fin 8) :
    ∀ a, ![kt.val * 8 + q.val, h.val * 512] a + S1x512.size a ≤ S216x1024.size a := by
  intro a; fin_cases a
  · show kt.val * 8 + q.val + 1 ≤ 216; omega
  · show h.val * 512 + 512 ≤ 1024; omega

/-- The activations' columns of step `kt`, as the run loads them. -/
def ldX (kt : Fin 27) : Vec F S192x256 .bf16 :=
  View.readAt (Elt F) arg1.view (Rect.unit (s := S192x6912) ![0, kt.val * 256] S192x256.size (inb_x kt)).toLoadRect (harg1.unread x0)

/-- The bytes of half `h`, step `kt`, as the run loads them. -/
def ldC (h : Fin 2) (kt : Fin 27) : Vec F S256x256 .i8 :=
  View.readAt (Elt F) arg2.view (Rect.unit (s := S512x6912) ![h.val * 256, kt.val * 256] S256x256.size (inb_c h kt)).toLoadRect (harg2.unread x1)

/-- The scales' words, as the run stores them in its scratch buffer. -/
def stored : Vec F S216x1024 .i32 :=
  k0_pay2 (F := F) (View.readAt (Elt F) arg3.view (Rect.unit (s := S216x1024) ![0, 0] S216x1024.size inb_S216x1024_S216x1024_0_0).toLoadRect (harg3.unread x2))

/-- Row `8 kt + q` of the scratch buffer, half `h` of its columns, as the run loads it. -/
def ldR (h : Fin 2) (kt : Fin 27) (q : Fin 8) : Vec F S1x512 .i32 :=
  arg5.view.readCov [⟨Rect.unit (s := S216x1024) ![0, 0] S216x1024.size inb_S216x1024_S216x1024_0_0, stored arg3 harg3 x2⟩]
    (Rect.unit (s := S216x1024) ![kt.val * 8 + q.val, h.val * 512] S1x512.size (inb_r h kt q)).toLoadRect

end Loads

/-! ## The pieces the run stores -/

set_option maxHeartbeats 4000000 in
theorem pieces_eq (c : Dev nD) (i : grid0.Coords) (arg1 : Memref sig .tc .vmem S192x6912 .bf16) (harg1 : arg1.IsWhole) (arg2 : Memref sig .tc .vmem S512x6912 .i8) (harg2 : arg2.IsWhole) (arg3 : Memref sig .tc .vmem S216x1024 .i8) (harg3 : arg3.IsWhole) (arg4 : Memref sig .tc .vmem S192x1024 .bf16) (harg4 : arg4.IsWhole) (arg5 : Memref sig .tc .vmem S216x1024 .i32) (harg5 : arg5.IsWhole)
    (x0 : Vec F S192x6912 .bf16) (x1 : Vec F S512x6912 .i8) (x2 : Vec F S216x1024 .i8)  :
    (kernelRun0_A c i arg1 harg1 arg2 harg2 arg3 harg3 arg4 harg4 arg5 harg5 x0 x1 x2).1
      = [⟨Rect.unit (s := S192x1024) ![0, 512] S192x512.size inb_S192x1024_S192x512_0_512,
          half (ldC arg2 harg2 x1 1) (ldR arg3 harg3 arg5 x2 1) (ldX arg1 harg1 x0)⟩,
         ⟨Rect.unit (s := S192x1024) ![0, 0] S192x512.size inb_S192x1024_S192x512_0_0,
          half (ldC arg2 harg2 x1 0) (ldR arg3 harg3 arg5 x2 0) (ldX arg1 harg1 x0)⟩] := by
  sl_kernel_rfl

end Cert.Proof.K
-- ==== Proof.Numbers.lean ====
/-
  The numbers of the format, and the bit patterns the two programs make of them.

  A weight code is four bits: a sign, two exponent bits and a mantissa bit; `e2m1` is the table of its sixteen values. A
  scale is a byte `s` standing for 2 ^ (s - 127); at the two ends the value is what bf16 makes of the power: zero at
  0 and infinity at 255 (`scale`). The lemmas here are about single words: which value the kernel's bits stand for and
  which value the reference's choices come to.
-/
module

public import Idealize.ShloMosaic.PureOps.Ideal.Laws
public import Idealize.ShloMosaic.Lib.ValueIdx

@[expose] public section

set_option maxRecDepth 65536

noncomputable section

namespace Cert.Proof

open Idealize.ShloMosaic Idealize.ShloMosaic.TcCoe

/-- The value of each of the sixteen codes. -/
def e2m1 (c : Fin 16) : EReal :=
  (((![0, 1 / 2, 1, 3 / 2, 2, 3, 4, 6, 0, -(1 / 2), -1, -(3 / 2), -2, -3, -4, -6] : Fin 16 → ℝ) c : ℝ) : EReal)

/-- The code a byte holds for the even row of its pair (`p = 0`, the low four bits) or the odd one. -/
def code (b : BitVec 8) (p : ℕ) : Fin 16 :=
  if p = 0 then ⟨b.toNat % 16, by omega⟩ else ⟨b.toNat / 16, by have := b.isLt; omega⟩

/-- The value of a scale byte. -/
def scale (s : BitVec 8) : EReal :=
  if s = 255#8 then ⊤ else if s = 0#8 then 0 else (((2 : ℝ) ^ ((s.toNat : ℤ) - 127) : ℝ) : EReal)

/-! ## The kernel's words -/

/-- The kernel's word for a byte: the low code in its low half, the high code in its high half. -/
def spreadWord (b : BitVec 8) : BitVec 32 :=
  IntOp.ori (IntOp.andi (b.setWidth 32) 15#32)
    (IntOp.shli .vector (IntOp.shrsi .vector (b.setWidth 32) 4#32) 16#32)

/-- The kernel's bits for a code. -/
def codeWord (v : BitVec 16) : BitVec 16 :=
  IntOp.ori (Scalar.select (IntOp.cmpi .slt (IntOp.andi v 7#16) 2#16) (IntOp.muli (IntOp.andi v 7#16) 16128#16)
      (IntOp.addi (IntOp.shli .vector (IntOp.andi v 7#16) 6#16) 16128#16))
    (IntOp.shli .vector (IntOp.andi v 8#16) 12#16)

/-- The kernel's word for a scale byte: the byte at the exponent's place of both halves. -/
def scaleWord (s : BitVec 8) : BitVec 32 :=
  IntOp.ori (IntOp.shli .vector (s.setWidth 32) 7#32) (IntOp.shli .vector (s.setWidth 32) 23#32)

theorem half_spread_nat : ∀ (p : Fin 2) (n : Fin 256), (spreadWord (BitVec.ofNat 8 n.val)).extractLsb' (16 * p.val) 16
    = BitVec.ofNat 16 (code (BitVec.ofNat 8 n.val) p.val).val := by
  decide +kernel

/-- Half `p` of the kernel's word for a byte is code `p` of the byte. -/
theorem half_spread (b : BitVec 8) (p : ℕ) (hp : p < 2) :
    (spreadWord b).extractLsb' (16 * p) 16 = BitVec.ofNat 16 (code b p).val := by
  have h := half_spread_nat ⟨p, hp⟩ ⟨b.toNat, b.isLt⟩
  simpa using h

theorem codeWord_eq : ∀ c : Fin 16, codeWord (BitVec.ofNat 16 c.val)
    = (![0x0000#16, 0x3F00#16, 0x3F80#16, 0x3FC0#16, 0x4000#16, 0x4040#16, 0x4080#16, 0x40C0#16,
        0x8000#16, 0xBF00#16, 0xBF80#16, 0xBFC0#16, 0xC000#16, 0xC040#16, 0xC080#16, 0xC0C0#16] : Fin 16 → BitVec 16) c := by
  decide +kernel

/-- The kernel's bits for a code stand for the code's value. -/
theorem ofBits_codeWord (c : Fin 16) : Ideal.ofBits .bf16 (codeWord (BitVec.ofNat 16 c.val)) = e2m1 c := by
  rw [codeWord_eq]
  fin_cases c <;> (simp [e2m1, Ideal.ofBits, Ideal.ieee, -EReal.coe_mul]; try norm_num)

theorem half_scale_nat : ∀ (p : Fin 2) (n : Fin 256),
    ((scaleWord (BitVec.ofNat 8 n.val)).extractLsb' (16 * p.val) 16).extractLsb' 15 1 = 0#1
    ∧ (((scaleWord (BitVec.ofNat 8 n.val)).extractLsb' (16 * p.val) 16).extractLsb' 7 8).toNat = n.val
    ∧ (((scaleWord (BitVec.ofNat 8 n.val)).extractLsb' (16 * p.val) 16).extractLsb' 0 7).toNat = 0 := by
  decide +kernel

/-- Either half of the kernel's word for a scale byte stands for the byte's scale. -/
theorem ofBits_half_scale (s : BitVec 8) (p : ℕ) (hp : p < 2) :
    Ideal.ofBits .bf16 ((scaleWord s).extractLsb' (16 * p) 16) = scale s := by
  obtain ⟨h1, h2, h3⟩ := half_scale_nat ⟨p, hp⟩ ⟨s.toNat, s.isLt⟩
  simp only [BitVec.ofNat_toNat, BitVec.setWidth_eq] at h1 h2 h3
  unfold scale
  show Ideal.ieee 8 7 _ = _
  unfold Ideal.ieee
  dsimp only
  rw [h1, h2, h3]
  have e255 : s = 255#8 ↔ s.toNat = 255 := ⟨fun h => by rw [h]; rfl, fun h => BitVec.eq_of_toNat_eq h⟩
  have e0 : s = 0#8 ↔ s.toNat = 0 := ⟨fun h => by rw [h]; rfl, fun h => BitVec.eq_of_toNat_eq h⟩
  by_cases c1 : s.toNat = 255
  · rw [if_pos (e255.2 c1), if_pos (by rw [c1]; norm_num)]; simp
  · rw [if_neg (mt e255.1 c1), if_neg (by omega)]
    by_cases c2 : s.toNat = 0
    · rw [if_pos (e0.2 c2), if_pos c2]; simp
    · rw [if_neg (mt e0.1 c2), if_neg c2]
      congr 1
      have : ((s.toNat : ℤ) - (2 ^ (8 - 1) - 1) - (7 : ℕ)) = ((s.toNat : ℤ) - 127) - 7 := by norm_num
      rw [this, zpow_sub₀ (by norm_num : (2 : ℝ) ≠ 0)]
      norm_num
      field_simp

/-! ## The reference's words -/

/-- The reference's value of a code held in a word: a choice by each of its four bits. -/
def codeChoice (c : BitVec 32) : EReal :=
  let b (k : BitVec 32) : BitVec 1 := IntOp.cmpi .ne (IntOp.andi c k) 0#32
  let mag := Scalar.select (b 4#32)
    (Scalar.select (b 2#32)
      (Scalar.select (b 1#32) (Ideal.ofBits .bf16 0x40C0#16) (Ideal.ofBits .bf16 0x4080#16))
      (Scalar.select (b 1#32) (Ideal.ofBits .bf16 0x4040#16) (Ideal.ofBits .bf16 0x4000#16)))
    (Scalar.select (b 2#32)
      (Scalar.select (b 1#32) (Ideal.ofBits .bf16 0x3FC0#16) (Ideal.ofBits .bf16 0x3F80#16))
      (Scalar.select (b 1#32) (Ideal.ofBits .bf16 0x3F00#16) (Ideal.ofBits .bf16 0x0000#16)))
  Scalar.select (b 8#32) (-mag) mag

theorem codeChoice_eq (c : Fin 16) : codeChoice (BitVec.ofNat 32 c.val) = e2m1 c := by
  fin_cases c <;>
    (simp [codeChoice, Scalar.select, IntOp.cmpi, IntOp.andi, e2m1, Ideal.ofBits, Ideal.ieee, -EReal.coe_mul]; try norm_num)

theorem low_nat : ∀ n : Fin 256, IntOp.andi ((BitVec.ofNat 8 n.val).setWidth 32) 15#32
    = BitVec.ofNat 32 (code (BitVec.ofNat 8 n.val) 0).val := by decide +kernel

theorem high_nat : ∀ n : Fin 256, IntOp.shrsi .host ((BitVec.ofNat 8 n.val).setWidth 32) 4#32
    = BitVec.ofNat 32 (code (BitVec.ofNat 8 n.val) 1).val := by decide +kernel

/-- The reference's low code of a byte. -/
theorem low_eq (b : BitVec 8) : IntOp.andi (b.setWidth 32) 15#32 = BitVec.ofNat 32 (code b 0).val := by
  simpa using low_nat ⟨b.toNat, b.isLt⟩

/-- The reference's high code of a byte. -/
theorem high_eq (b : BitVec 8) : IntOp.shrsi .host (b.setWidth 32) 4#32 = BitVec.ofNat 32 (code b 1).val := by
  simpa using high_nat ⟨b.toNat, b.isLt⟩

/-- The reference's value of a scale byte: the power of two, cut to zero below and to infinity above. -/
def scaleChoice (s : BitVec 8) : EReal :=
  let e := IntOp.subi (s.setWidth 32) 127#32
  Scalar.select (IntOp.cmpi .slt e 4294967170#32) (Ideal.ofBits .f32 0x00000000#32)
    (Scalar.select (IntOp.cmpi .sgt e 127#32) (Ideal.ofBits .f32 0x7F800000#32)
      (Ideal.pow (Ideal.ofBits .f32 0x40000000#32) (((e.toInt : ℝ)) : EReal)))

theorem exponent_nat : ∀ n : Fin 256,
    (IntOp.subi ((BitVec.ofNat 8 n.val).setWidth 32) 127#32).toInt = (n.val : ℤ) - 127
    ∧ IntOp.cmpi .slt (IntOp.subi ((BitVec.ofNat 8 n.val).setWidth 32) 127#32) 4294967170#32 = (if n.val = 0 then 1#1 else 0#1)
    ∧ IntOp.cmpi .sgt (IntOp.subi ((BitVec.ofNat 8 n.val).setWidth 32) 127#32) 127#32 = (if n.val = 255 then 1#1 else 0#1) := by
  decide +kernel

theorem scaleChoice_eq (s : BitVec 8) : scaleChoice s = scale s := by
  obtain ⟨h1, h2, h3⟩ := exponent_nat ⟨s.toNat, s.isLt⟩
  simp only [BitVec.ofNat_toNat, BitVec.setWidth_eq] at h1 h2 h3
  unfold scaleChoice scale
  dsimp only
  rw [h1, h2, h3]
  have e255 : s = 255#8 ↔ s.toNat = 255 := ⟨fun h => by rw [h]; rfl, fun h => BitVec.eq_of_toNat_eq h⟩
  have e0 : s = 0#8 ↔ s.toNat = 0 := ⟨fun h => by rw [h]; rfl, fun h => BitVec.eq_of_toNat_eq h⟩
  by_cases c2 : s.toNat = 0
  · rw [if_pos c2, if_neg (show ¬ s.toNat = 255 by omega), if_neg (mt e255.1 (by omega)), if_pos (e0.2 c2)]
    simp [Scalar.select, Ideal.ofBits, Ideal.ieee]
  · rw [if_neg c2, if_neg (mt e0.1 c2)]
    by_cases c1 : s.toNat = 255
    · rw [if_pos c1, if_pos (e255.2 c1)]
      simp [Scalar.select, Ideal.ofBits, Ideal.ieee]
    · rw [if_neg c1, if_neg (mt e255.1 c1)]
      have two : Ideal.ofBits .f32 0x40000000#32 = ((2 : ℝ) : EReal) := by
        simp [Ideal.ofBits, Ideal.ieee, -EReal.coe_mul]; norm_num
      rw [two, Ideal.pow_coe_coe]
      simp only [Scalar.select]
      show ((Real.rpow 2 _ : ℝ) : EReal) = _
      rw [Real.rpow_eq_pow, Real.rpow_intCast]

end Cert.Proof
-- ==== Proof.Block.lean ====
/-
  One step of the kernel over the extended reals, element by element.

  A step adds to each element of the running sum, over its 256 reduction columns, the activation times the weight; the
  weight is the value of the code (the byte's low code for an even output column, its high code for an odd one) times
  what the scale's half-word stands for.
-/
module

public import proofs.«01_k».proof.Proof.Step
public import proofs.«01_k».proof.Proof.Numbers
public import Idealize.ShloMosaic.Lib.BitcastPair
public import Idealize.ShloMosaic.Lib.MatmulPlain
public import Idealize.ShloMosaic.Lib.ValueLayout
public import Idealize.ShloMosaic.Lib.Pipeline.Value

@[expose] public section

set_option maxRecDepth 65536

noncomputable section

namespace Cert.Proof.K

open Cert.KernelIdeal Cert.KernelIdeal.Gen Cert.Proof
open Idealize.ShloMosaic Idealize.ShloMosaic.TcCoe Idealize.ShloMosaic.ValueIdx Idealize.SL.Sem

/-- The number at reduction column `k`, output column `n` of the step's 512: the code of `n`'s parity in byte `n / 2`. -/
theorem vals_apply (c : Vec Ideal S256x256 .i8) (k : Fin 256) (n : Fin 512) :
    vals c (ix2 k n) = e2m1 (code (c (ix2 (⟨n.val / 2, by omega⟩ : Fin 256) k)) (n.val % 2)) := by
  have h1 : vals c (ix2 k n) = Ideal.ofBits .bf16 (codeWord (bitcast S512x256 16 (spread c) bitcasts_S256x256_w32_S512x256_w16 (ix2 n k))) := by
    unfold vals
    exact transpose_ix2_apply (a := 512) (b := 256) (truncf .fp8e4m3 (bitcastToFloat (F := Ideal) .bf16
      (codeBits (bitcast S512x256 16 (spread c) bitcasts_S256x256_w32_S512x256_w16))) bitsLt_fp8e4m3_bf16) transposes_S512x256_p1_0_S256x512 k n
  have h2 : bitcast S512x256 16 (spread c) bitcasts_S256x256_w32_S512x256_w16 (ix2 n k)
      = (spreadWord (c (ix2 (⟨n.val / 2, by omega⟩ : Fin 256) k))).extractLsb' (16 * (n.val % 2)) 16 := by
    rw [bitcast_32_16]
    have e : (bitcasts_S256x256_w32_S512x256_w16).srcIdx (ix2 n k) (S512x256.row (ix2 n k) / 2) (fun a ha => by
        have := (bitcasts_S256x256_w32_S512x256_w16).pos_lt (ix2 n k) 0 (by decide) a ha; omega)
        = ix2 (⟨n.val / 2, by omega⟩ : Fin 256) k := by
      funext a; apply Fin.ext
      match a with
      | ⟨0, _⟩ => rfl
      | ⟨1, _⟩ => rfl
    rw [e]
    rfl
  rw [h1, h2, half_spread _ _ (Nat.mod_lt _ (by decide)), ofBits_codeWord]

/-- A row of scales read at a row of its group. -/
theorem scaleRows_apply (row : Vec Ideal S1x512 .i32) (r : Fin 32) (n : Fin 512) :
    scaleRows row (ix2 r n) = Ideal.ofBits .bf16 ((row (ix2 (0 : Fin 1) n)).extractLsb' (16 * (r.val % 2)) 16) := by
  unfold scaleRows
  show Ideal.ofBits .bf16 (bitcast S32x512 16 _ bitcasts_S16x512_w32_S32x512_w16 (ix2 r n)) = _
  rw [bitcast_32_16, shapeCast_self]
  have e : (bitcasts_S16x512_w32_S32x512_w16).srcIdx (ix2 r n) (S32x512.row (ix2 r n) / 2) (fun a ha => by
      have := (bitcasts_S16x512_w32_S32x512_w16).pos_lt (ix2 r n) 0 (by decide) a ha; omega)
      = ix2 (⟨r.val / 2, by omega⟩ : Fin 16) n := by
    funext a; apply Fin.ext
    match a with
    | ⟨0, _⟩ => rfl
    | ⟨1, _⟩ => rfl
  rw [e, broadcastTo_1b_ab_apply (a := 16) (b := 512) row broadcasts_S1x512_S16x512]
  rfl

/-- The weights of a step: number times scale. -/
theorem weights_apply (v : FVec Ideal S256x512 .bf16) (row : Fin 8 → Vec Ideal S1x512 .i32) (k : Fin 256) (n : Fin 512) :
    weights v row (ix2 k n) = v (ix2 k n)
      * Ideal.ofBits .bf16 ((row ⟨k.val / 32, by omega⟩ (ix2 (0 : Fin 1) n)).extractLsb' (16 * (k.val % 32 % 2)) 16) := by
  unfold weights
  refine (concatenate_ofFn_apply (t := S256x512) (s₁ := S32x512) 0 (fun q : Fin 8 => group v row q) _ rfl 32 rfl (ix2 k n)
    ⟨k.val / 32, by omega⟩ rfl (ix2 (⟨k.val % 32, by omega⟩ : Fin 32) n) rfl
    (fun b hb => match b with | ⟨0, _⟩ => absurd rfl hb | ⟨1, _⟩ => rfl)).trans ?_
  unfold group
  show extractStridedSlice S32x512 _ v _ _ * scaleRows _ _ = _
  rw [scaleRows_apply, extractStridedSlice_apply _ v _ _ (ix2 k n)]
  intro a
  match a with
  | ⟨0, _⟩ => show k.val = k.val / 32 * 32 + k.val % 32; omega
  | ⟨1, _⟩ => show n.val = 0 + n.val; omega

/-- One step adds its 256 products. -/
theorem tile_apply (acc : FVec Ideal S192x512 .f32) (c : Vec Ideal S256x256 .i8) (row : Fin 8 → Vec Ideal S1x512 .i32)
    (x : Vec Ideal S192x256 .bf16) (b : Fin 192) (n : Fin 512) :
    tile acc c row x (ix2 b n) = acc (ix2 b n) + ∑ k : Fin 256, x (ix2 b k) *
      (e2m1 (code (c (ix2 (⟨n.val / 2, by omega⟩ : Fin 256) k)) (n.val % 2))
        * Ideal.ofBits .bf16 ((row ⟨k.val / 32, by omega⟩ (ix2 (0 : Fin 1) n)).extractLsb' (16 * (k.val % 32 % 2)) 16)) := by
  unfold tile
  rw [shapeCast_self]
  show acc (ix2 b n) + FloatOps.matmul dot_S192x256_S256x512_S192x512_1_0_0_1_n_n none x (weights (vals c) row) (constant S192x512 .f32 0x00000000#32) (ix2 b n) = _
  rw [show dot_S192x256_S256x512_S192x512_1_0_0_1_n_n = DotDims.plain 192 256 512 from rfl]
  rw [Ideal.matmul_plain_apply (M := 192) (K := 256) (N := 512)]
  have z : (constant (F := Ideal) S192x512 .f32 0x00000000#32) (ix2 b n) = 0 := by
    show Ideal.ofBits .f32 0x00000000#32 = 0
    simp [Ideal.ofBits, Ideal.ieee]
  rw [z, zero_add]
  simp only [weights_apply, vals_apply]

end Cert.Proof.K
-- ==== Proof.Half.lean ====
/-
  What one grid point leaves in its output block, element by element: 27 steps of 256 reduction columns make one sum over
  all 6912, and the two halves of 512 columns make one block of 1024.
-/
module

public import proofs.«01_k».proof.Proof.Block

@[expose] public section

set_option maxRecDepth 65536

noncomputable section

namespace Cert.Proof.K

open Cert.KernelIdeal Cert.KernelIdeal.Gen Cert.Proof
open Idealize.ShloMosaic Idealize.ShloMosaic.TcCoe Idealize.ShloMosaic.ValueIdx Idealize.SL.Sem

/-! ## 27 steps -/

/-- A run of additions, each reading one element of the sum only, adds up its terms at that element. -/
theorem foldl_apply {ι : Type} (f : FVec Ideal S192x512 .f32 → ι → FVec Ideal S192x512 .f32) (g : ι → EReal)
    (j : S192x512.Idx) (h : ∀ acc i, f acc i j = acc j + g i) (L : List ι) (a : FVec Ideal S192x512 .f32) :
    L.foldl f a j = a j + (L.map g).sum := by
  induction L generalizing a with
  | nil => simp
  | cons i L ih => rw [List.foldl_cons, ih, h, List.map_cons, List.sum_cons]; exact add_assoc (G := EReal) _ _ _

/-- 27 stretches of 256 are 6912. -/
theorem sum_tiles (f : Fin 6912 → EReal) :
    ∑ kt : Fin 27, ∑ k : Fin 256, f ⟨kt.val * 256 + k.val, by omega⟩ = ∑ k : Fin 6912, f k := by
  rw [← Fintype.sum_prod_type' (f := fun (kt : Fin 27) (k : Fin 256) => f ⟨kt.val * 256 + k.val, by omega⟩)]
  refine Fintype.sum_equiv (finProdFinEquiv (m := 27) (n := 256)) _ _ (fun p => congrArg f (Fin.ext ?_))
  show p.1.val * 256 + p.2.val = p.2.val + 256 * p.1.val
  omega

/-- A half at an element: the sum over the steps of the steps' sums. -/
theorem half_apply (c : Fin 27 → Vec Ideal S256x256 .i8) (row : Fin 27 → Fin 8 → Vec Ideal S1x512 .i32)
    (x : Fin 27 → Vec Ideal S192x256 .bf16) (b : Fin 192) (n : Fin 512) :
    half c row x (ix2 b n) = ∑ kt : Fin 27, ∑ k : Fin 256, x kt (ix2 b k) *
      (e2m1 (code (c kt (ix2 (⟨n.val / 2, by omega⟩ : Fin 256) k)) (n.val % 2))
        * Ideal.ofBits .bf16 ((row kt ⟨k.val / 32, by omega⟩ (ix2 (0 : Fin 1) n)).extractLsb' (16 * (k.val % 32 % 2)) 16)) := by
  unfold half
  refine (foldl_apply _ _ (ix2 b n) (fun acc kt => tile_apply acc (c kt) (row kt) (x kt) b n) _ _).trans ?_
  have z : broadcast S192x512 (Scalar.ofBits (F := Ideal) .f32 0x00000000#32) (ix2 b n) = (0 : EReal) := by
    show Ideal.ofBits .f32 0x00000000#32 = 0
    simp [Ideal.ofBits, Ideal.ieee]
  rw [z, zero_add]
  exact (Fin.sum_univ_def _).symm

/-! ## The loads, read at an index -/

section Loads

variable (arg1 : Memref sig .tc .vmem S192x6912 .bf16) (harg1 : arg1.IsWhole)
  (arg2 : Memref sig .tc .vmem S512x6912 .i8) (harg2 : arg2.IsWhole)
  (arg3 : Memref sig .tc .vmem S216x1024 .i8) (harg3 : arg3.IsWhole)
  (arg5 : Memref sig .tc .vmem S216x1024 .i32)
  (x0 : Vec Ideal S192x6912 .bf16) (x1 : Vec Ideal S512x6912 .i8) (x2 : Vec Ideal S216x1024 .i8)

theorem ldX_apply (kt : Fin 27) (b : Fin 192) (k : Fin 256) :
    ldX arg1 harg1 x0 kt (ix2 b k) = x0 (ix2 b (⟨kt.val * 256 + k.val, by omega⟩ : Fin 6912)) := by
  unfold ldX
  rw [View.readAt_eq_ld, harg1.read_unread, View.ld_unit]
  refine extractStridedSlice_apply _ x0 _ _ _ (fun a => ?_)
  match a with
  | ⟨0, _⟩ => show b.val = 0 + b.val; omega
  | ⟨1, _⟩ => rfl

theorem ldC_apply (h : Fin 2) (kt : Fin 27) (r : Fin 256) (k : Fin 256) :
    ldC arg2 harg2 x1 h kt (ix2 r k)
      = x1 (ix2 (⟨h.val * 256 + r.val, by omega⟩ : Fin 512) (⟨kt.val * 256 + k.val, by omega⟩ : Fin 6912)) := by
  unfold ldC
  rw [View.readAt_eq_ld, harg2.read_unread, View.ld_unit]
  refine extractStridedSlice_apply _ x1 _ _ _ (fun a => ?_)
  match a with
  | ⟨0, _⟩ => rfl
  | ⟨1, _⟩ => rfl

/-- The scratch buffer holds the word of each scale. -/
theorem stored_apply (j : S216x1024.Idx) : stored arg3 harg3 x2 j = scaleWord (x2 j) := by
  unfold stored
  rw [View.readAt_eq_ld, harg3.read_unread, View.ld_unit_zero (by funext a; fin_cases a <;> rfl)]
  unfold k0_pay2
  simp only [shapeCast_self]
  rfl

theorem ldR_apply (h : Fin 2) (kt : Fin 27) (q : Fin 8) (n : Fin 512) :
    ldR arg3 harg3 arg5 x2 h kt q (ix2 (0 : Fin 1) n)
      = scaleWord (x2 (ix2 (⟨kt.val * 8 + q.val, by omega⟩ : Fin 216) (⟨h.val * 512 + n.val, by omega⟩ : Fin 1024))) := by
  have z : (![0, 0] : Fin S216x1024.rank → Nat) = fun _ => 0 := by funext a; fin_cases a <;> rfl
  unfold ldR
  rw [View.readCov_eq_canon_ld _ _ _ (fun y => ⟨_, List.mem_singleton.mpr rfl, View.mem_set_unit_zero z inb_S216x1024_S216x1024_0_0 y⟩), View.canon_unit_zero z, View.ld_unit]
  refine (extractStridedSlice_apply _ (stored arg3 harg3 x2) _ _ (ix2 (⟨kt.val * 8 + q.val, by omega⟩ : Fin 216) (⟨h.val * 512 + n.val, by omega⟩ : Fin 1024)) (fun a => ?_)).trans (stored_apply arg3 harg3 x2 _)
  match a with
  | ⟨0, _⟩ => rfl
  | ⟨1, _⟩ => rfl

/-! ## The block -/

/-- What an element of a grid point's output block should be. -/
def blockWant (b : Fin 192) (n : Fin 1024) : EReal :=
  ∑ k : Fin 6912, x0 (ix2 b k) * (e2m1 (code (x1 (ix2 (⟨n.val / 2, by omega⟩ : Fin 512) k)) (n.val % 2))
    * scale (x2 (ix2 (⟨k.val / 32, by omega⟩ : Fin 216) n)))

theorem half_block (h : Fin 2) (b : Fin 192) (n : Fin 512) :
    half (ldC arg2 harg2 x1 h) (ldR arg3 harg3 arg5 x2 h) (ldX arg1 harg1 x0) (ix2 b n)
      = blockWant x0 x1 x2 b ⟨h.val * 512 + n.val, by omega⟩ := by
  rw [half_apply]
  unfold blockWant
  rw [← sum_tiles]
  refine Finset.sum_congr rfl fun kt _ => Finset.sum_congr rfl fun k _ => ?_
  rw [ldX_apply, ldC_apply, ldR_apply, ofBits_half_scale _ _ (Nat.mod_lt _ (by decide))]
  have e1 : (⟨h.val * 256 + n.val / 2, by omega⟩ : Fin 512) = ⟨(h.val * 512 + n.val) / 2, by omega⟩ := Fin.ext (show h.val * 256 + n.val / 2 = (h.val * 512 + n.val) / 2 by omega)
  have e2 : (⟨kt.val * 8 + k.val / 32, by omega⟩ : Fin 216) = ⟨(kt.val * 256 + k.val) / 32, by omega⟩ := Fin.ext (show kt.val * 8 + k.val / 32 = (kt.val * 256 + k.val) / 32 by omega)
  have e3 : n.val % 2 = (h.val * 512 + n.val) % 2 := by omega
  show x0 _ * (e2m1 (code (x1 (ix2 (⟨h.val * 256 + n.val / 2, _⟩ : Fin 512) _)) _) * scale (x2 (ix2 (⟨kt.val * 8 + k.val / 32, _⟩ : Fin 216) _))) = _
  rw [e1, e2, e3]

end Loads

/-- What a grid point leaves in its output block. -/
theorem out_apply (c : Dev nD) (i : grid0.Coords) (arg1 : Memref sig .tc .vmem S192x6912 .bf16) (harg1 : arg1.IsWhole) (arg2 : Memref sig .tc .vmem S512x6912 .i8) (harg2 : arg2.IsWhole) (arg3 : Memref sig .tc .vmem S216x1024 .i8) (harg3 : arg3.IsWhole) (arg4 : Memref sig .tc .vmem S192x1024 .bf16) (harg4 : arg4.IsWhole) (arg5 : Memref sig .tc .vmem S216x1024 .i32) (harg5 : arg5.IsWhole)
    (x0 : Vec Ideal S192x6912 .bf16) (x1 : Vec Ideal S512x6912 .i8) (x2 : Vec Ideal S216x1024 .i8) (b : Fin 192) (n : Fin 1024) :
    out0_A_3 c i arg1 harg1 arg2 harg2 arg3 harg3 arg4 harg4 arg5 harg5 x0 x1 x2 (ix2 b n) = blockWant x0 x1 x2 b n := by
  unfold out0_A_3
  rw [View.read_writes_eq_canon _ _ _ (cover0_A_3 c i arg1 harg1 arg2 harg2 arg3 harg3 arg4 harg4 arg5 harg5 x0 x1 x2), pieces_eq]
  by_cases hn : n.val < 512
  · rw [View.canon_cons_of_not_mem]
    · have e : (ix2 b n : S192x1024.Idx) = (Rect.unit (s := S192x1024) ![0, 0] S192x512.size inb_S192x1024_S192x512_0_0).emb (ix2 b (⟨n.val, hn⟩ : Fin 512)) := by
        funext a; apply Fin.ext
        match a with
        | ⟨0, _⟩ => show b.val = 0 + 1 * b.val; omega
        | ⟨1, _⟩ => show n.val = 0 + 1 * n.val; omega
      rw [e, View.canon_cons_emb, half_block]
      congr 1; apply Fin.ext; show 0 * 512 + n.val = n.val; omega
    · intro hm
      have := (Rect.mem_set_unit (inb := inb_S192x1024_S192x512_0_512).mp hm (1 : Fin 2)).1
      have : 512 ≤ n.val := this
      omega
  · have e : (ix2 b n : S192x1024.Idx) = (Rect.unit (s := S192x1024) ![0, 512] S192x512.size inb_S192x1024_S192x512_0_512).emb (ix2 b (⟨n.val - 512, by omega⟩ : Fin 512)) := by
      funext a; apply Fin.ext
      match a with
      | ⟨0, _⟩ => show b.val = 0 + 1 * b.val; omega
      | ⟨1, _⟩ => show n.val = 512 + 1 * (n.val - 512); omega
    rw [e, View.canon_cons_emb, half_block]
    congr 1; apply Fin.ext; show 1 * 512 + (n.val - 512) = n.val; omega

end Cert.Proof.K
-- ==== Proof.Array.lean ====
/-
  What the kernel's result holds after a run: the five grid points' blocks of 1024 columns side by side, then the host's
  last reshape. `want` is the number each element should be, over the arguments as launched.
-/
module

public import proofs.«01_k».proof.Proof.Half
public import Idealize.ShloMosaic.Lib.Pipeline.ValueKit
public import Idealize.ShloMosaic.Lib.Pipeline.FrameTail
public import Idealize.ShloMosaic.Lib.Claim

@[expose] public section

set_option maxRecDepth 65536

noncomputable section

namespace Cert.Proof.K

open Cert.KernelIdeal Cert.KernelIdeal.Gen Cert.Proof
open Idealize.ShloMosaic hiding ix2 ix3
open Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Element `(b, n)` of the product: the activations' row `b` against the weights' row `n`. -/
def want (x : Vec Ideal S192x1x6912 .bf16) (w : Vec Ideal S2560x6912 .i8) (s : Vec Ideal S5120x216 .i8)
    (b : Fin 192) (n : Fin 5120) : EReal :=
  ∑ k : Fin 6912, x (ix3 b (0 : Fin 1) k) * (e2m1 (code (w (ix2 (⟨n.val / 2, by omega⟩ : Fin 2560) k)) (n.val % 2))
    * scale (s (ix2 n (⟨k.val / 32, by omega⟩ : Fin 216))))

/-! ## What the kernel is launched on -/

/-- The activations, reshaped. -/
theorem entry_x (c : Dev nD) (b : Fin 192) (k : Fin 6912) :
    V m c main_v0 (ix2 b k) = m ((c : Thread nD τ).loc main_arg0) (ix3 b (0 : Fin 1) k) := by
  have e : V m c main_v0 = shapeCast S192x6912 (m ((c : Thread nD τ).loc main_arg0)) shapeCasts_S192x1x6912_S192x6912 := by
    show StableHlo.after hostOps0 (fun b => m (c, b)) _ = _
    after_results
    rfl
  rw [e]
  refine shapeCast_apply _ _ _ (ix3 b (0 : Fin 1) k) ?_
  rw [Shape.rowMajor_val_two, Shape.rowMajor_val_three]
  show (b.val * 1 + 0) * 6912 + k.val = b.val * 6912 + k.val
  omega

/-- The scales, turned. -/
theorem entry_s (c : Dev nD) (k : Fin 216) (n : Fin 5120) :
    V m c main_v1 (ix2 k n) = m ((c : Thread nD τ).loc main_arg2) (ix2 n k) := by
  have e : V m c main_v1 = transpose S216x5120 [1, 0] (m ((c : Thread nD τ).loc main_arg2)) transposes_S5120x216_S216x5120_1_0 := by
    show StableHlo.after hostOps0 (fun b => m (c, b)) _ = _
    after_results
  rw [e]
  exact transpose_ix2_apply (a := 5120) (b := 216) _ _ k n

/-! ## The blocks -/

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

theorem lt5 (t : Fin cfg0.N) : t.val < 5 := lt_of_lt_of_eq t.isLt N_0

theorem blk_x (c : Dev nD) (t : Fin cfg0.N) (b : Fin 192) (k : Fin 6912) :
    iblk m c 0 t (ix2 b k) = V m c main_v0 (ix2 b k) := by
  blk_simp [iblk]
  refine congrArg _ ?_
  blk_ext [idx0 t]

theorem blk_w (c : Dev nD) (t : Fin cfg0.N) (r : Fin 512) (k : Fin 6912) :
    iblk m c 1 t (ix2 r k) = V m c main_arg1 (ix2 (⟨t.val * 512 + r.val, by have := lt5 t; omega⟩ : Fin 2560) k) := by
  blk_simp [iblk]
  refine congrArg _ ?_
  blk_ext [idx1 t]

theorem blk_s (c : Dev nD) (t : Fin cfg0.N) (k : Fin 216) (n : Fin 1024) :
    iblk m c 2 t (ix2 k n) = V m c main_v1 (ix2 k (⟨t.val * 1024 + n.val, by have := lt5 t; omega⟩ : Fin 5120)) := by
  blk_simp [iblk]
  refine congrArg _ ?_
  blk_ext [idx2 t]

/-- What a point leaves, over the arguments as launched. -/
theorem outs_apply (c : Dev nD) (t : Fin cfg0.N) (b : Fin 192) (n : Fin 1024) :
    outsAt0 m c t (ix2 b n) = want (m ((c : Thread nD τ).loc main_arg0)) (m ((c : Thread nD τ).loc main_arg1))
      (m ((c : Thread nD τ).loc main_arg2)) b ⟨t.val * 1024 + n.val, by have := lt5 t; omega⟩ := by
  unfold outsAt0
  rw [out_apply]
  unfold blockWant want
  refine Finset.sum_congr rfl fun k _ => ?_
  have hx := (blk_x m c t b k).trans (entry_x m c b k)
  have hs := (blk_s m c t (⟨k.val / 32, by omega⟩ : Fin 216) n).trans (entry_s m c _ _)
  have e1 : (⟨t.val * 512 + n.val / 2, by have := lt5 t; omega⟩ : Fin 2560) = ⟨(t.val * 1024 + n.val) / 2, by have := lt5 t; omega⟩ :=
    Fin.ext (show t.val * 512 + n.val / 2 = (t.val * 1024 + n.val) / 2 by omega)
  have hw := ((blk_w m c t (⟨n.val / 2, by omega⟩ : Fin 512) k).trans (congrFun (V_main_arg1 m c) _)).trans
    (congrArg (fun r : Fin 2560 => m ((c : Thread nD τ).loc main_arg1) (ix2 r k)) e1)
  have e2 : n.val % 2 = (t.val * 1024 + n.val) % 2 := by omega
  rw [hx, hs, hw, e2]

/-! ## The array -/

/-- The product as an array. -/
abbrev G (c : Dev nD) : Buf (Elt Ideal) ((c : Thread nD τ).loc main_v2) :=
  fun j : S192x5120.Idx => want (m ((c : Thread nD τ).loc main_arg0)) (m ((c : Thread nD τ).loc main_arg1))
    (m ((c : Thread nD τ).loc main_arg2)) (j 0) (j 1)

theorem final_v2 (c : Dev nD) : (dats m 0 c).arrAt 3 cfg0.N = G m c := by
  refine (dats m 0 c).arrAt_eq_of_covers 3 _ (by decide +kernel) fun t hf y => ?_
  blk_simp
  rw [after0_3]
  have hy : y = ix2 (y 0) (y 1) := by funext a; match a with | ⟨0, _⟩ => rfl | ⟨1, _⟩ => rfl
  refine (congrArg (outsAt0 m c t) hy).trans ((outs_apply m c t (y 0) (y 1)).trans ?_)
  refine congrArg₂ (want _ _ _) (Fin.ext ?_) (Fin.ext ?_)
  · blk_simp [idx3 t]
  · blk_simp [idx3 t]

/-- The result after the host's last reshape. -/
theorem tail_v3 (c : Dev nD) : Pipeline.afterTail₀ cfgs (dats m) 0 (V0 m) [hostOps1] c main_v3
    = shapeCast S192x1x5120 (G m c) shapeCasts_S192x5120_S192x1x5120 := by
  have e : Pipeline.afterTail₀ cfgs (dats m) 0 (V0 m) [hostOps1] c main_v3
      = shapeCast S192x1x5120 (Pipeline.withArrays spec0 c (V0 m c) (fun w => (dats m 0 c).arrAt w cfg0.N)
          (Proc.devRef .tc (Pipeline.arrRef spec0 3))) shapeCasts_S192x5120_S192x1x5120 := by
    unfold Pipeline.afterTail₀
    show StableHlo.after hostOps1 _ _ = _
    after_results
    rfl
  rw [e, Pipeline.withArrays_arr spec0 (by decide) c (V0 m c) _ 3, final_v2]

/-- The kernel's run: its result, and its arguments unchanged. -/
theorem run : θ_run defs (onTc (τ := τ) (main (F := Ideal))) ⟨m, fun _ => 0, ρ⟩ fun r => ∀ c : Dev nD,
      r.2.mem ((c : Thread nD τ).loc main_v3) = shapeCast S192x1x5120 (G m c) shapeCasts_S192x5120_S192x1x5120
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v3 (Pipeline.mem_restRefs_of main_v3 (by decide) (by decide))).trans (tail_v3 m c), h.2 c⟩)
    (θ_run_and (run_main m ρ) (unchanged m ρ))

end Cert.Proof.K
-- ==== Proof.Ref.lean ====
/-
  What the reference computes, element by element. Its one-hot product spreads each scale over its 32 reduction columns,
  its two decodes give the even and the odd rows of the weights, and its stack puts their products side by side.
-/
module

public import proofs.«01_k».proof.Proof.Numbers
public import proofs.«01_k».proof.Proof.Gen.ReferenceIdeal.Run
public import proofs.«01_k».proof.Proof.Gen.ReferenceIdeal.Read
public import Idealize.ShloMosaic.Lib.ValueLayout
public import Idealize.ShloMosaic.Lib.Pipeline.Value
public import Idealize.ShloMosaic.Lib.Claim

@[expose] public section

set_option maxRecDepth 65536

noncomputable section

namespace Cert.Proof.R

open Cert.ReferenceIdeal Cert.ReferenceIdeal.Gen Cert.ReferenceIdeal.Read Cert.Proof
open Idealize.ShloMosaic Idealize.ShloMosaic.TcCoe Idealize.ShloMosaic.ValueIdx Idealize.SL.Sem

variable (x0 : (⟨S192x1x6912, .bf16⟩ : BufTy).Contents (Elt Ideal)) (x1 : (⟨S2560x6912, .i8⟩ : BufTy).Contents (Elt Ideal))
  (x2 : (⟨S5120x216, .i8⟩ : BufTy).Contents (Elt Ideal))

/-! ## Spreading the scales -/

/-- The block of a reduction column, as the reference's floor division finds it. -/
theorem block_word : ∀ k : Fin 6912, (val_main_v4 (F := Ideal) (ix1 k) : BitVec 32) = BitVec.ofNat 32 (k.val / 32) := by
  decide +kernel

/-- The one-hot matrix: one where the block is the column's, zero elsewhere. -/
theorem expand_apply (q : Fin 216) (k : Fin 6912) :
    val_main_v9 (F := Ideal) (ix2 q k) = if q.val = k.val / 32 then (1 : EReal) else 0 := by
  have e5 : idx_main_v5 (idx_main_v7 (ix2 q k)) = ix1 k := by funext a; match a with | ⟨0, _⟩ => rfl
  rw [val_main_v9_apply, val_main_v8_apply, val_main_v7_apply, val_main_v5_apply, e5, block_word, val_main_v6_apply]
  show (((IntOp.cmpi .eq (BitVec.ofNat 32 q.val) (BitVec.ofNat 32 (k.val / 32))).toNat : ℝ) : EReal) = _
  have hq := q.isLt
  have hk := k.isLt
  by_cases h : q.val = k.val / 32
  · rw [if_pos h, h]; simp [IntOp.cmpi]
  · have hne : BitVec.ofNat 32 q.val ≠ BitVec.ofNat 32 (k.val / 32) := fun e => h (by
      have := congrArg BitVec.toNat e
      simp only [BitVec.toNat_ofNat] at this
      omega)
    rw [if_neg h]; simp [IntOp.cmpi, hne]

/-- A row of scales against the one-hot matrix is the scale of the column's block (zero times infinity is zero). -/
theorem sum_expand (f : Fin 216 → EReal) (k : Fin 6912) :
    ∑ q : Fin 216, f q * val_main_v9 (F := Ideal) (ix2 q k) = f ⟨k.val / 32, by omega⟩ := by
  rw [Finset.sum_eq_single (⟨k.val / 32, by omega⟩ : Fin 216)]
  · rw [expand_apply, if_pos rfl, mul_one]
  · intro q _ hq
    rw [expand_apply, if_neg (fun h => hq (Fin.ext h)), mul_zero]
  · exact fun h => absurd (Finset.mem_univ _) h

/-! ## The two weights -/

theorem slice_even (r : Fin 2560) (q : Fin 216) :
    val_main_v15 (F := Ideal) x2 (ix2 r q) = x2 (ix2 (⟨2 * r.val, by omega⟩ : Fin 5120) q) := by
  show x2 _ = x2 _
  congr 1; funext a; apply Fin.ext
  match a with
  | ⟨0, _⟩ => show 0 + 2 * r.val = 2 * r.val; omega
  | ⟨1, _⟩ => show 0 + 1 * q.val = q.val; omega

theorem slice_odd (r : Fin 2560) (q : Fin 216) :
    val_main_v57 (F := Ideal) x2 (ix2 r q) = x2 (ix2 (⟨2 * r.val + 1, by omega⟩ : Fin 5120) q) := by
  show x2 _ = x2 _
  congr 1; funext a; apply Fin.ext
  match a with
  | ⟨0, _⟩ => show 1 + 2 * r.val = 2 * r.val + 1; omega
  | ⟨1, _⟩ => show 0 + 1 * q.val = q.val; omega

/-- The weights of the even rows. -/
theorem even_apply (r : Fin 2560) (k : Fin 6912) : val_main_v56 (F := Ideal) x1 x2 (ix2 r k)
    = e2m1 (code (x1 (ix2 r k)) 0) * scale (x2 (ix2 (⟨2 * r.val, by omega⟩ : Fin 5120) (⟨k.val / 32, by omega⟩ : Fin 216))) := by
  have hc : val_main_v40 (F := Ideal) x1 (ix2 r k) = e2m1 (code (x1 (ix2 r k)) 0) := by
    rw [← codeChoice_eq, ← low_eq]; rfl
  have hs : val_main_v54 (F := Ideal) x2 (ix2 r k) = scale (x2 (ix2 (⟨2 * r.val, by omega⟩ : Fin 5120) (⟨k.val / 32, by omega⟩ : Fin 216))) := by
    rw [val_main_v54_apply]
    refine Eq.trans ?_ (sum_expand (fun q => scale (x2 (ix2 (⟨2 * r.val, by omega⟩ : Fin 5120) q))) k)
    refine Finset.sum_congr rfl fun q _ => ?_
    have el : lidx_main_v54 (ix2 r k) q = ix2 r q := by funext a; match a with | ⟨0, _⟩ => rfl | ⟨1, _⟩ => rfl
    have er : ridx_main_v54 (ix2 r k) q = ix2 q k := by funext a; match a with | ⟨0, _⟩ => rfl | ⟨1, _⟩ => rfl
    rw [el, er, ← scaleChoice_eq, ← slice_even x2]; rfl
  rw [val_main_v56_apply, hc, ← hs]; rfl

/-- The weights of the odd rows. -/
theorem odd_apply (r : Fin 2560) (k : Fin 6912) : val_main_v98 (F := Ideal) x1 x2 (ix2 r k)
    = e2m1 (code (x1 (ix2 r k)) 1) * scale (x2 (ix2 (⟨2 * r.val + 1, by omega⟩ : Fin 5120) (⟨k.val / 32, by omega⟩ : Fin 216))) := by
  have hc : val_main_v82 (F := Ideal) x1 (ix2 r k) = e2m1 (code (x1 (ix2 r k)) 1) := by
    rw [← codeChoice_eq, ← high_eq]; rfl
  have hs : val_main_v96 (F := Ideal) x2 (ix2 r k) = scale (x2 (ix2 (⟨2 * r.val + 1, by omega⟩ : Fin 5120) (⟨k.val / 32, by omega⟩ : Fin 216))) := by
    rw [val_main_v96_apply]
    refine Eq.trans ?_ (sum_expand (fun q => scale (x2 (ix2 (⟨2 * r.val + 1, by omega⟩ : Fin 5120) q))) k)
    refine Finset.sum_congr rfl fun q _ => ?_
    have el : lidx_main_v96 (ix2 r k) q = ix2 r q := by funext a; match a with | ⟨0, _⟩ => rfl | ⟨1, _⟩ => rfl
    have er : ridx_main_v96 (ix2 r k) q = ix2 q k := by funext a; match a with | ⟨0, _⟩ => rfl | ⟨1, _⟩ => rfl
    rw [el, er, ← scaleChoice_eq, ← slice_odd x2]; rfl
  rw [val_main_v98_apply, hc, ← hs]; rfl

/-! ## The two products -/

theorem x_apply (b : Fin 192) (k : Fin 6912) : val_main_v0 (F := Ideal) x0 (ix2 b k) = x0 (ix3 b (0 : Fin 1) k) := by
  rw [val_main_v0_apply]
  congr 1; funext a; apply Fin.ext
  match a with
  | ⟨0, _⟩ => show (b.val * 6912 + k.val) / 6912 = b.val; omega
  | ⟨1, _⟩ => rfl
  | ⟨2, _⟩ => show (b.val * 6912 + k.val) % 6912 = k.val; omega

theorem evenDot_apply (b : Fin 192) (r : Fin 2560) : val_main_v99 (F := Ideal) x0 x1 x2 (ix2 b r)
    = ∑ k : Fin 6912, x0 (ix3 b (0 : Fin 1) k) * (e2m1 (code (x1 (ix2 r k)) 0)
      * scale (x2 (ix2 (⟨2 * r.val, by omega⟩ : Fin 5120) (⟨k.val / 32, by omega⟩ : Fin 216)))) := by
  rw [val_main_v99_apply]
  refine Finset.sum_congr rfl fun k _ => ?_
  have el : lidx_main_v99 (ix2 b r) k = ix2 b k := by funext a; match a with | ⟨0, _⟩ => rfl | ⟨1, _⟩ => rfl
  have er : ridx_main_v99 (ix2 b r) k = ix2 r k := by funext a; match a with | ⟨0, _⟩ => rfl | ⟨1, _⟩ => rfl
  rw [el, er, x_apply, even_apply]

theorem oddDot_apply (b : Fin 192) (r : Fin 2560) : val_main_v100 (F := Ideal) x0 x1 x2 (ix2 b r)
    = ∑ k : Fin 6912, x0 (ix3 b (0 : Fin 1) k) * (e2m1 (code (x1 (ix2 r k)) 1)
      * scale (x2 (ix2 (⟨2 * r.val + 1, by omega⟩ : Fin 5120) (⟨k.val / 32, by omega⟩ : Fin 216)))) := by
  rw [val_main_v100_apply]
  refine Finset.sum_congr rfl fun k _ => ?_
  have el : lidx_main_v100 (ix2 b r) k = ix2 b k := by funext a; match a with | ⟨0, _⟩ => rfl | ⟨1, _⟩ => rfl
  have er : ridx_main_v100 (ix2 b r) k = ix2 r k := by funext a; match a with | ⟨0, _⟩ => rfl | ⟨1, _⟩ => rfl
  rw [el, er, x_apply, odd_apply]

/-! ## The stack -/

theorem stack_even (b : Fin 192) (r : Fin 2560) :
    val_main_v103 (F := Ideal) x0 x1 x2 (ix3 b r (0 : Fin 2)) = val_main_v99 (F := Ideal) x0 x1 x2 (ix2 b r) := by
  unfold val_main_v103
  refine (concatenate_pair_apply_left (2 : Fin S192x2560x2.rank) (val_main_v101 (F := Ideal) x0 x1 x2) (val_main_v102 (F := Ideal) x0 x1 x2)
    concatenates_S192x2560x1_S192x2560x1_S192x2560x2_d2 (ix3 b r (0 : Fin 2)) rfl (ix3 b r (0 : Fin 1))
    (fun a => match a with | ⟨0, _⟩ => rfl | ⟨1, _⟩ => rfl | ⟨2, _⟩ => rfl)).trans ?_
  rw [val_main_v101_apply]
  exact congrArg _ (by funext a; match a with | ⟨0, _⟩ => rfl | ⟨1, _⟩ => rfl)

theorem stack_odd (b : Fin 192) (r : Fin 2560) :
    val_main_v103 (F := Ideal) x0 x1 x2 (ix3 b r (1 : Fin 2)) = val_main_v100 (F := Ideal) x0 x1 x2 (ix2 b r) := by
  unfold val_main_v103
  refine (concatenate_pair_apply_right (2 : Fin S192x2560x2.rank) (val_main_v101 (F := Ideal) x0 x1 x2) (val_main_v102 (F := Ideal) x0 x1 x2)
    concatenates_S192x2560x1_S192x2560x1_S192x2560x2_d2 (ix3 b r (1 : Fin 2)) rfl rfl (ix3 b r (0 : Fin 1))
    (fun a ha => match a with | ⟨0, _⟩ => rfl | ⟨1, _⟩ => rfl | ⟨2, _⟩ => absurd rfl ha) rfl).trans ?_
  rw [val_main_v102_apply]
  exact congrArg _ (by funext a; match a with | ⟨0, _⟩ => rfl | ⟨1, _⟩ => rfl)

/-- The reference's result at column `n`: the activations' row against row `n` of the weights. -/
theorem ref_apply (b : Fin 192) (n : Fin 5120) : val_main_v105 (F := Ideal) x0 x1 x2 (ix3 b (0 : Fin 1) n)
    = ∑ k : Fin 6912, x0 (ix3 b (0 : Fin 1) k) * (e2m1 (code (x1 (ix2 (⟨n.val / 2, by omega⟩ : Fin 2560) k)) (n.val % 2))
      * scale (x2 (ix2 n (⟨k.val / 32, by omega⟩ : Fin 216)))) := by
  have e : val_main_v105 (F := Ideal) x0 x1 x2 (ix3 b (0 : Fin 1) n)
      = val_main_v103 (F := Ideal) x0 x1 x2 (ix3 b (⟨n.val / 2, by omega⟩ : Fin 2560) (⟨n.val % 2, by omega⟩ : Fin 2)) := by
    rw [val_main_v105_apply, val_main_v104_apply]
    show val_main_v103 (F := Ideal) x0 x1 x2 _ = _
    congr 1; funext a; apply Fin.ext
    match a with
    | ⟨0, _⟩ => show ((b.val * 1 + 0) * 5120 + n.val) / 5120 = b.val; omega
    | ⟨1, _⟩ => show ((b.val * 1 + 0) * 5120 + n.val) / 2 % 2560 = n.val / 2; omega
    | ⟨2, _⟩ => show ((b.val * 1 + 0) * 5120 + n.val) % 2 = n.val % 2; omega
  rw [e]
  rcases Nat.mod_two_eq_zero_or_one n.val with h | h
  · have hn : (⟨2 * (n.val / 2), by omega⟩ : Fin 5120) = n := Fin.ext (show 2 * (n.val / 2) = n.val by omega)
    have hp : (⟨n.val % 2, by omega⟩ : Fin 2) = 0 := Fin.ext h
    rw [hp, stack_even, evenDot_apply, h]
    simp only [hn]
  · have hn : (⟨2 * (n.val / 2) + 1, by omega⟩ : Fin 5120) = n := Fin.ext (show 2 * (n.val / 2) + 1 = n.val by omega)
    have hp : (⟨n.val % 2, by omega⟩ : Fin 2) = 1 := Fin.ext h
    rw [hp, stack_odd, oddDot_apply, h]
    simp only [hn]

/-- The reference's run: its result, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v105) = val_main_v105 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v105_eq (StableHlo.launchContents m c)), (h c).2⟩) (Cert.ReferenceIdeal.Value.run m ρ)

end Cert.Proof.R
-- ==== Proof.Equal.lean ====
/-
  The equation. Both sides send row `b` of the activations and column `n` to the same sum over the 6912 reduction
  columns, so the array the kernel leaves is the array the reference leaves.
-/
module

public import proofs.«01_k».proof.Proof.Array
public import proofs.«01_k».proof.Proof.Ref

@[expose] public section

set_option maxRecDepth 65536

noncomputable section

namespace Cert.Proof

open Idealize.ShloMosaic hiding ix2 ix3
open Idealize.ShloMosaic.TcCoe Idealize.ShloMosaic.ValueIdx Idealize.SL.Sem

/-- The host's reshape puts the element at `(b, n)` at `(b, 0, n)`. -/
theorem relayout (g : Cert.KernelIdeal.S192x5120.Idx → EReal) (b : Fin 192) (n : Fin 5120) :
    shapeCast Cert.KernelIdeal.S192x1x5120 g Cert.KernelIdeal.Gen.shapeCasts_S192x5120_S192x1x5120 (ix3 b (0 : Fin 1) n) = g (ix2 b n) := by
  refine shapeCast_apply g _ (ix3 b (0 : Fin 1) n) (ix2 b n) ?_
  rw [Shape.rowMajor_val_two, Shape.rowMajor_val_three]
  show b.val * 5120 + n.val = (b.val * 1 + 0) * 5120 + n.val
  omega

/-- The kernel's array, reshaped as the host reshapes it, is the reference's. -/
theorem equal (m : (ℓ : Loc Cert.KernelIdeal.nD Cert.KernelIdeal.τ Cert.KernelIdeal.sig) → Buf (Elt Ideal) ℓ) (c : Dev Cert.KernelIdeal.nD) :
    shapeCast Cert.KernelIdeal.S192x1x5120 (K.G m c) Cert.KernelIdeal.Gen.shapeCasts_S192x5120_S192x1x5120
      = Cert.ReferenceIdeal.Read.val_main_v105 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
  funext i
  obtain ⟨b, z, n, rfl⟩ : ∃ (b : Fin 192) (z : Fin 1) (n : Fin 5120), i = ix3 b z n :=
    ⟨i 0, i 1, i 2, by funext a; match a with | ⟨0, _⟩ => rfl | ⟨1, _⟩ => rfl | ⟨2, _⟩ => rfl⟩
  obtain rfl : z = 0 := Subsingleton.elim _ _
  refine Eq.trans ?_ (R.ref_apply _ _ _ b n).symm
  exact relayout (K.G m c) b n

end Cert.Proof
-- ==== Proof.lean ====
/-
  `Cert.Claim`, assembled. The frames: each program runs to its end, leaves its arguments as they were and every
  semaphore at zero. Nothing was rewritten between the two kernel programs. The value: over the extended reals the
  kernel and the reference leave the same array.

  The parts:
    Numbers   what one weight code and one scale byte stand for, in either program's spelling;
    Step      what one reduction tile adds to the output block;
    Block     the weights of one tile, element by element;
    Half      the reduction over the tiles of one output block;
    Array     the blocks, together: the array the kernel leaves;
    Ref       the array the reference leaves;
    Equal     the two arrays are equal.
-/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel and the reference, from memories agreeing on the arguments, end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, K.run m g, (θ_run Cert.ReferenceIdeal.defs _ _).mono (fun r h c => ⟨(h c).1.trans ?_, (h c).2⟩) (R.run m' g')⟩
  rw [(hargs c).1, (hargs c).2.1, (hargs c).2.2]
  exact (equal m c).symm

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono (fun r h => ⟨fun c => (h c).2, sem_eq_zero_of_no_sems rfl r.2⟩) (Cert.ReferenceIdeal.Value.run m ρ),
  trivial,
  algebraic⟩

end Cert.Proof

end
